-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v11_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2x1000x257x2 : Shape := ⟨5, ![16, 2, 1000, 257, 2]⟩
abbrev S1x2x1x257x1 : Shape := ⟨5, ![1, 2, 1, 257, 1]⟩
abbrev S1x2x257x1 : Shape := ⟨4, ![1, 2, 257, 1]⟩
abbrev S16x2x257x1 : Shape := ⟨4, ![16, 2, 257, 1]⟩
abbrev S32x125x8x514 : Shape := ⟨4, ![32, 125, 8, 514]⟩
abbrev S2x257 : Shape := ⟨2, ![2, 257]⟩
abbrev S2x257x2 : Shape := ⟨3, ![2, 257, 2]⟩
abbrev S2x514 : Shape := ⟨2, ![2, 514]⟩
abbrev S1x2x1x514 : Shape := ⟨4, ![1, 2, 1, 514]⟩
abbrev S16x2x1x514 : Shape := ⟨4, ![16, 2, 1, 514]⟩
abbrev S32x514 : Shape := ⟨2, ![32, 514]⟩
abbrev S32x257 : Shape := ⟨2, ![32, 257]⟩
abbrev S32x257x2 : Shape := ⟨3, ![32, 257, 2]⟩
abbrev S16x5x8x514 : Shape := ⟨4, ![16, 5, 8, 514]⟩
abbrev S16x514 : Shape := ⟨2, ![16, 514]⟩
abbrev S16x8x514 : Shape := ⟨3, ![16, 8, 514]⟩
abbrev S16x1x8x514 : Shape := ⟨4, ![16, 1, 8, 514]⟩
abbrev S16x8x513 : Shape := ⟨3, ![16, 8, 513]⟩
abbrev S16x8x1 : Shape := ⟨3, ![16, 8, 1]⟩
abbrev S16x1x514 : Shape := ⟨3, ![16, 1, 514]⟩
abbrev S16x1x1x514 : Shape := ⟨4, ![16, 1, 1, 514]⟩

abbrev nBuf : Space → Nat
  | .hbm => 32
  | .vmem => 15
  | .smem => 0
  | _ => 0

abbrev bufTy : (tb : Table) → Fin (tcTables nBuf tb) → BufTy
  | .hbm, ⟨0, _⟩ => ⟨S16x2x1000x257x2, .f32⟩
  | .hbm, ⟨1, _⟩ => ⟨S1x2x1x257x1, .f32⟩
  | .hbm, ⟨2, _⟩ => ⟨S1x2x1x257x1, .f32⟩
  | .hbm, ⟨3, _⟩ => ⟨S1x2x257x1, .f32⟩
  | .hbm, ⟨4, _⟩ => ⟨S16x2x257x1, .f32⟩
  | .hbm, ⟨5, _⟩ => ⟨S32x125x8x514, .f32⟩
  | .hbm, ⟨6, _⟩ => ⟨S2x257, .f32⟩
  | .hbm, ⟨7, _⟩ => ⟨S2x257x2, .f32⟩
  | .hbm, ⟨8, _⟩ => ⟨S2x514, .f32⟩
  | .hbm, ⟨9, _⟩ => ⟨S1x2x1x514, .f32⟩
  | .hbm, ⟨10, _⟩ => ⟨S16x2x1x514, .f32⟩
  | .hbm, ⟨11, _⟩ => ⟨S32x514, .f32⟩
  | .hbm, ⟨12, _⟩ => ⟨S2x257, .f32⟩
  | .hbm, ⟨13, _⟩ => ⟨S2x257x2, .f32⟩
  | .hbm, ⟨14, _⟩ => ⟨S2x514, .f32⟩
  | .hbm, ⟨15, _⟩ => ⟨S1x2x1x514, .f32⟩
  | .hbm, ⟨16, _⟩ => ⟨S16x2x1x514, .f32⟩
  | .hbm, ⟨17, _⟩ => ⟨S32x514, .f32⟩
  | .hbm, ⟨18, _⟩ => ⟨S2x257, .f32⟩
  | .hbm, ⟨19, _⟩ => ⟨S2x257x2, .f32⟩
  | .hbm, ⟨20, _⟩ => ⟨S2x514, .f32⟩
  | .hbm, ⟨21, _⟩ => ⟨S1x2x1x514, .f32⟩
  | .hbm, ⟨22, _⟩ => ⟨S16x2x1x514, .f32⟩
  | .hbm, ⟨23, _⟩ => ⟨S32x514, .f32⟩
  | .hbm, ⟨24, _⟩ => ⟨S32x257, .f32⟩
  | .hbm, ⟨25, _⟩ => ⟨S32x257x2, .f32⟩
  | .hbm, ⟨26, _⟩ => ⟨S32x514, .f32⟩
  | .hbm, ⟨27, _⟩ => ⟨S32x125x8x514, .f32⟩
  | .hbm, ⟨28, _⟩ => ⟨S32x514, .f32⟩
  | .hbm, ⟨29, _⟩ => ⟨S16x2x1000x257x2, .f32⟩
  | .hbm, ⟨30, _⟩ => ⟨S32x257, .f32⟩
  | .hbm, ⟨31, _⟩ => ⟨S16x2x257x1, .f32⟩
  | .local _ .vmem, ⟨0, _⟩ => ⟨S16x5x8x514, .f32⟩
  | .local _ .vmem, ⟨1, _⟩ => ⟨S16x5x8x514, .f32⟩
  | .local _ .vmem, ⟨2, _⟩ => ⟨S16x514, .f32⟩
  | .local _ .vmem, ⟨3, _⟩ => ⟨S16x514, .f32⟩
  | .local _ .vmem, ⟨4, _⟩ => ⟨S16x514, .f32⟩
  | .local _ .vmem, ⟨5, _⟩ => ⟨S16x514, .f32⟩
  | .local _ .vmem, ⟨6, _⟩ => ⟨S16x514, .f32⟩
  | .local _ .vmem, ⟨7, _⟩ => ⟨S16x514, .f32⟩
  | .local _ .vmem, ⟨8, _⟩ => ⟨S16x514, .f32⟩
  | .local _ .vmem, ⟨9, _⟩ => ⟨S16x514, .f32⟩
  | .local _ .vmem, ⟨10, _⟩ => ⟨S16x5x8x514, .f32⟩
  | .local _ .vmem, ⟨11, _⟩ => ⟨S16x5x8x514, .f32⟩
  | .local _ .vmem, ⟨12, _⟩ => ⟨S16x514, .f32⟩
  | .local _ .vmem, ⟨13, _⟩ => ⟨S16x514, .f32⟩
  | .local _ .vmem, ⟨14, _⟩ => ⟨S16x514, .f32⟩
  | _, _ => ⟨S16x2x1000x257x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 25], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x5x8x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x5x8x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x2x1000x257x2 : Shape := ⟨5, ![16, 2, 1000, 257, 2]⟩
abbrev S1x2x1x257x1 : Shape := ⟨5, ![1, 2, 1, 257, 1]⟩
abbrev S1x2x257x1 : Shape := ⟨4, ![1, 2, 257, 1]⟩
abbrev S16x2x257x1 : Shape := ⟨4, ![16, 2, 257, 1]⟩
abbrev S_ : Shape := ⟨0, ![]⟩
abbrev S16x2x1000x257 : Shape := ⟨4, ![16, 2, 1000, 257]⟩
abbrev S16x2x1000x257x1 : Shape := ⟨5, ![16, 2, 1000, 257, 1]⟩
abbrev S1000x16x2x257x1 : Shape := ⟨5, ![1000, 16, 2, 257, 1]⟩
abbrev S1x16x2x257x1 : Shape := ⟨5, ![1, 16, 2, 257, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x2x1000x257x2, .f32⟩
  | .hbm, ⟨1, _⟩ => ⟨S1x2x1x257x1, .f32⟩
  | .hbm, ⟨2, _⟩ => ⟨S1x2x1x257x1, .f32⟩
  | .hbm, ⟨3, _⟩ => ⟨S1x2x257x1, .f32⟩
  | .hbm, ⟨4, _⟩ => ⟨S16x2x257x1, .f32⟩
  | .hbm, ⟨5, _⟩ => ⟨S16x2x1000x257x2, .f32⟩
  | .hbm, ⟨6, _⟩ => ⟨S_, .f32⟩
  | .hbm, ⟨7, _⟩ => ⟨S16x2x1000x257, .f32⟩
  | .hbm, ⟨8, _⟩ => ⟨S16x2x1000x257x1, .f32⟩
  | .hbm, ⟨9, _⟩ => ⟨S1x2x257x1, .f32⟩
  | .hbm, ⟨10, _⟩ => ⟨S1x2x257x1, .f32⟩
  | .hbm, ⟨11, _⟩ => ⟨S_, .f32⟩
  | .hbm, ⟨12, _⟩ => ⟨S1x2x257x1, .f32⟩
  | .hbm, ⟨13, _⟩ => ⟨S1x2x257x1, .f32⟩
  | .hbm, ⟨14, _⟩ => ⟨S_, .f32⟩
  | .hbm, ⟨15, _⟩ => ⟨S1x2x257x1, .f32⟩
  | .hbm, ⟨16, _⟩ => ⟨S1x2x257x1, .f32⟩
  | .hbm, ⟨17, _⟩ => ⟨S1000x16x2x257x1, .f32⟩
  | .hbm, ⟨18, _⟩ => ⟨S_, .f32⟩
  | .hbm, ⟨19, _⟩ => ⟨S1000x16x2x257x1, .f32⟩
  | .hbm, ⟨20, _⟩ => ⟨S_, .i32⟩
  | .hbm, ⟨21, _⟩ => ⟨S1000x16x2x257x1, .f32⟩
  | .hbm, ⟨22, _⟩ => ⟨S1x2x257x1, .f32⟩
  | .hbm, ⟨23, _⟩ => ⟨S_, .i32⟩
  | .hbm, ⟨24, _⟩ => ⟨S16x2x257x1, .f32⟩
  | .hbm, ⟨25, _⟩ => ⟨S1000x16x2x257x1, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x16x2x257x1, .f32⟩
  | .hbm, ⟨33, _⟩ => ⟨S16x2x257x1, .f32⟩
  | .hbm, ⟨34, _⟩ => ⟨S_, .f32⟩
  | .hbm, ⟨35, _⟩ => ⟨S1x2x257x1, .f32⟩
  | .hbm, ⟨36, _⟩ => ⟨S1x2x257x1, .f32⟩
  | .hbm, ⟨37, _⟩ => ⟨S16x2x257x1, .f32⟩
  | .hbm, ⟨38, _⟩ => ⟨S16x2x257x1, .f32⟩
  | .hbm, ⟨39, _⟩ => ⟨S16x2x257x1, .f32⟩
  | .hbm, ⟨40, _⟩ => ⟨S16x2x257x1, .f32⟩
  | .hbm, ⟨41, _⟩ => ⟨S16x2x257x1, .f32⟩
  | .hbm, ⟨42, _⟩ => ⟨S1x16x2x257x1, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1000x16x2x257x1, .f32⟩
  | .hbm, ⟨48, _⟩ => ⟨S_, .i32⟩
  | .hbm, ⟨49, _⟩ => ⟨S_, .i32⟩
  | .hbm, ⟨50, _⟩ => ⟨S16x2x1000x257x1, .f32⟩
  | .hbm, ⟨51, _⟩ => ⟨S16x2x1000x257x1, .f32⟩
  | .hbm, ⟨52, _⟩ => ⟨S_, .f32⟩
  | .hbm, ⟨53, _⟩ => ⟨S16x2x1000x257x1, .f32⟩
  | .hbm, ⟨54, _⟩ => ⟨S16x2x1000x257x1, .f32⟩
  | .hbm, ⟨55, _⟩ => ⟨S16x2x1000x257x2, .f32⟩
  | .hbm, ⟨56, _⟩ => ⟨S16x2x1000x257x2, .f32⟩
  | .hbm, ⟨57, _⟩ => ⟨S16x2x1000x257x2, .f32⟩
  | .hbm, ⟨58, _⟩ => ⟨S16x2x1000x257x2, .f32⟩
  | .hbm, ⟨59, _⟩ => ⟨S16x2x1000x257x2, .f32⟩
  | .hbm, ⟨60, _⟩ => ⟨S16x2x1000x257x2, .f32⟩
  | _, _ => ⟨S16x2x1000x257x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_c : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_while0c_c_8 : Ref sig .tc := ⟨.hbm, 26, rfl⟩
abbrev main_while0c_v22 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_c_2 : Ref sig .tc := ⟨.hbm, 31, rfl⟩
abbrev main_while0b_call0_v0 : Ref sig .tc := ⟨.hbm, 32, rfl⟩
abbrev main_while0b_v22 : Ref sig .tc := ⟨.hbm, 33, rfl⟩
abbrev main_while0b_cst_8 : Ref sig .tc := ⟨.hbm, 34, rfl⟩
abbrev main_while0b_v23 : Ref sig .tc := ⟨.hbm, 35, rfl⟩
abbrev main_while0b_v24 : Ref sig .tc := ⟨.hbm, 36, rfl⟩
abbrev main_while0b_v25 : Ref sig .tc := ⟨.hbm, 37, rfl⟩
abbrev main_while0b_v26 : Ref sig .tc := ⟨.hbm, 38, rfl⟩
abbrev main_while0b_v27 : Ref sig .tc := ⟨.hbm, 39, rfl⟩
abbrev main_while0b_v28 : Ref sig .tc := ⟨.hbm, 40, rfl⟩
abbrev main_while0b_v29 : Ref sig .tc := ⟨.hbm, 41, rfl⟩
abbrev main_while0b_call1_v0 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_v30 : Ref sig .tc := ⟨.hbm, 47, rfl⟩
abbrev main_while0b_c_9 : Ref sig .tc := ⟨.hbm, 48, rfl⟩
abbrev main_while0b_v31 : Ref sig .tc := ⟨.hbm, 49, rfl⟩
abbrev main_v12 : Ref sig .tc := ⟨.hbm, 50, rfl⟩
abbrev main_v13 : Ref sig .tc := ⟨.hbm, 51, rfl⟩
abbrev main_cst_3 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩

abbrev nD : Nat := 1
abbrev τ : Topo := Topo.v7x

variable {F : FTy → Type} [FloatOps F]

abbrev main_while0_count : Scf.Loop 32 := ⟨0#32, 1000#32, 1#32⟩
-- ==== Proof.Block.lean ====
/-
  What ONE BLOCK of the kernel computes: forty time steps of the recursion
  `s ← s (1 − a) + p a` over a block of x, and the forty normalized output rows. The body is printed unrolled,
  forty steps one after the other; here it is one step iterated, and the two are shown to be the same term.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Block
open Cert.KernelIdeal Cert.KernelIdeal.Gen

variable {F : FTy → Type} [FloatOps F]

/-- The time chunk (0 to 4) that step `n` of a block lies in. -/
abbrev chunkOf (n : ℕ) : Fin 5 := ⟨n / 8 % 5, Nat.mod_lt _ (by decide)⟩
/-- The row (0 to 7) of its chunk that step `n` of a block is. -/
abbrev rowOf (n : ℕ) : Fin 8 := ⟨n % 8, Nat.mod_lt _ (by decide)⟩

theorem chunk_fits : ∀ k : Fin 5, ∀ a, (![0, k.val, 0, 0] : Fin 4 → ℕ) a + S16x1x8x514.size a ≤ S16x5x8x514.size a := by decide
theorem row_fits : ∀ t : Fin 8, S16x8x514.Slices ![0, t.val, 0] S16x1x514 := by decide
theorem piece_fits : ∀ k : Fin 5, ∀ t : Fin 8, ∀ a, (![0, k.val, t.val, 0] : Fin 4 → ℕ) a + S16x1x1x514.size a ≤ S16x5x8x514.size a := by decide

/-- Time chunk `k` of a block: eight time steps. -/
def chunk (x : Vec F S16x5x8x514 .f32) (k : Fin 5) : FVec F S16x8x514 .f32 :=
  shapeCast S16x8x514 (View.ld x (Rect.unit (s := S16x5x8x514) ![0, k.val, 0, 0] S16x1x8x514.size (chunk_fits k))) shapeCasts_S16x1x8x514_S16x8x514

/-- Row `t` of eight time steps. -/
def row (p : FVec F S16x8x514 .f32) (t : Fin 8) : FVec F S16x514 .f32 :=
  shapeCast S16x514 (extractStridedSlice S16x1x514 ![0, t.val, 0] p (row_fits t)) shapeCasts_S16x1x514_S16x514

/-- The power of eight time steps: at each lane its square plus its partner lane's. -/
def power (xc : FVec F S16x8x514 .f32) : FVec F S16x8x514 .f32 := k0_pay11 k0_pay8 (mulf xc xc)

/-- One step of the recursion, on all lanes of the block at once. -/
def next (ar s p : FVec F S16x514 .f32) : FVec F S16x514 .f32 :=
  addf (mulf s (k0_pay5 ar)) (mulf p (k0_pay4 ar))

/-- The state after `n` steps of a block, from the state `s` before it. -/
def state (x : Vec F S16x5x8x514 .f32) (ar s : Vec F S16x514 .f32) (n : ℕ) : FVec F S16x514 .f32 :=
  Nat.rec s (fun k st => next ar st (row (power (chunk x (chunkOf k))) (rowOf k))) n

/-- The output row of step `n` of a block. -/
def outRow (x : Vec F S16x5x8x514 .f32) (ar w b s : Vec F S16x514 .f32) (n : ℕ) : FVec F S16x514 .f32 :=
  addf (mulf (divf (row (chunk x (chunkOf n)) (rowOf n))
    (addf (sqrt (state x ar s (n + 1))) (broadcast S16x514 (Scalar.ofBits .f32 0x322BCC77#32)))) w) b

/-- The stores of a block's first `n` steps into the output block, the last one first. -/
def pieces (x : Vec F S16x5x8x514 .f32) (ar w b s : Vec F S16x514 .f32) (n : ℕ) : List (View.Piece (Elt F) S16x5x8x514 .f32) :=
  Nat.rec [] (fun k L => ⟨Rect.unit (s := S16x5x8x514) ![0, (chunkOf k).val, (rowOf k).val, 0] S16x1x1x514.size (piece_fits _ _),
    shapeCast S16x1x1x514 (outRow x ar w b s k) shapeCasts_S16x514_S16x1x1x514⟩ :: L) n

/-- A reshape of a slab to its own shape changes nothing. -/
theorem cast_same (v : FVec F S16x514 .f32) : shapeCast S16x514 v shapeCasts_S16x514_S16x514 = v := by
  funext j
  exact shapeCast_apply v _ j j rfl

theorem pay2_eq (v : FVec F S16x514 .f32) : k0_pay2 v = v := cast_same v
theorem pay3_eq (v : FVec F S16x514 .f32) : k0_pay3 v = v := (cast_same _).trans (cast_same v)
theorem pay6_eq (v : FVec F S16x514 .f32) : k0_pay6 v = v := cast_same v
theorem pay7_eq (v : FVec F S16x514 .f32) : k0_pay7 v = v := cast_same v

/-- The first block of a row group starts from its block of start states: what it stores in the output block. -/
theorem out_A_5 (c : Dev nD) (t : Fin cfg0.N) (h0 : t.val % 25 = 0) (x : Vec F S16x5x8x514 .f32) (ar w b s : Vec F S16x514 .f32) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x ar w b s = View.canon (pieces x ar w b s 40) := by
  frame_out
  try simp only [read_unread_whole, pay2_eq, pay3_eq, pay6_eq, pay7_eq]
  sl_kernel_rfl

/-- What the first block stores in the second output: the state after its forty steps. -/
theorem out_A_6 (c : Dev nD) (t : Fin cfg0.N) (h0 : t.val % 25 = 0) (x : Vec F S16x5x8x514 .f32) (ar w b s : Vec F S16x514 .f32) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x ar w b s = state x ar s 40 := by
  frame_out
  try simp only [read_unread_whole, pay2_eq, pay3_eq, pay6_eq, pay7_eq]
  sl_kernel_rfl

/-- What the first block leaves in the carried state: the state after its forty steps. -/
theorem carried_A_0 (c : Dev nD) (t : Fin cfg0.N) (h0 : t.val % 25 = 0) (x : Vec F S16x5x8x514 .f32) (ar w b s : Vec F S16x514 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x ar w b s = state x ar s 40 := by
  frame_out
  try simp only [read_unread_whole, pay2_eq, pay3_eq, pay6_eq, pay7_eq]
  sl_kernel_rfl

/-- A later block starts from the carried state `s'`: what it stores in the output block. -/
theorem out_B_5 (c : Dev nD) (t : Fin cfg0.N) (h0 : ¬ t.val % 25 = 0) (x : Vec F S16x5x8x514 .f32) (ar w b s s' : Vec F S16x514 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x ar w b s s' = View.canon (pieces x ar w b s' 40) := by
  frame_out
  try simp only [read_unread_whole, pay2_eq, pay3_eq, pay6_eq, pay7_eq]
  sl_kernel_rfl

/-- What a later block stores in the second output: the state after its forty steps. -/
theorem out_B_6 (c : Dev nD) (t : Fin cfg0.N) (h0 : ¬ t.val % 25 = 0) (x : Vec F S16x5x8x514 .f32) (ar w b s s' : Vec F S16x514 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x ar w b s s' = state x ar s' 40 := by
  frame_out
  try simp only [read_unread_whole, pay2_eq, pay3_eq, pay6_eq, pay7_eq]
  sl_kernel_rfl

/-- What a later block leaves in the carried state: the state after its forty steps. -/
theorem carried_B_0 (c : Dev nD) (t : Fin cfg0.N) (h0 : ¬ t.val % 25 = 0) (x : Vec F S16x5x8x514 .f32) (ar w b s s' : Vec F S16x514 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x ar w b s s' = state x ar s' 40 := by
  frame_out
  try simp only [read_unread_whole, pay2_eq, pay3_eq, pay6_eq, pay7_eq]
  sl_kernel_rfl

end Cert.KernelIdeal.Block
end
-- ==== Proof.Ema.lean ====
/-
  The recursion itself, on extended reals: an exponential moving average `s ← s (1 − a) + p a` of a sequence of
  powers `p 0, p 1, …`. Both programs are shown to compute this one function, lane by lane.
-/
module

public import Idealize.ShloMosaic.Lib.Pointwise

@[expose] public section

noncomputable section

namespace Cert.Ema

/-- The average after `n` steps, from `s`, with weight `a`, over the powers `p`. -/
def ema (a s : EReal) (p : ℕ → EReal) (n : ℕ) : EReal :=
  Nat.rec s (fun k e => e * (1 - a) + p k * a) n

/-- No step leaves the start value. -/
theorem ema_zero (a s : EReal) (p : ℕ → EReal) : ema a s p 0 = s := rfl

/-- One more step weighs the average by `1 − a` and the next power by `a`. -/
theorem ema_succ (a s : EReal) (p : ℕ → EReal) (n : ℕ) : ema a s p (n + 1) = ema a s p n * (1 - a) + p n * a := rfl

/-- `n` steps read only the first `n` powers. -/
theorem ema_congr (a s : EReal) (p q : ℕ → EReal) (n : ℕ) (h : ∀ k, k < n → p k = q k) : ema a s p n = ema a s q n := by
  induction n with
  | zero => rfl
  | succ n ih => rw [ema_succ, ema_succ, ih fun k hk => h k (Nat.lt_succ_of_lt hk), h n (Nat.lt_succ_self n)]

/-- `m + n` steps are `n` steps from where `m` steps lead. -/
theorem ema_add (a s : EReal) (p : ℕ → EReal) (m n : ℕ) :
    ema a s p (m + n) = ema a (ema a s p m) (fun k => p (m + k)) n := by
  induction n with
  | zero => rfl
  | succ n ih => rw [← Nat.add_assoc, ema_succ, ema_succ, ih]

end Cert.Ema

end
-- ==== Proof.Lanes.lean ====
/-
  One block of the kernel read LANE BY LANE at the ideal instance: the power of a time step, the state after n
  steps as the moving average of one lane, and what the output block holds at an index.
-/
module

public import proofs.«01_k».proof.Proof.Block
public import proofs.«01_k».proof.Proof.Ema

@[expose] public section

set_option maxRecDepth 16384

noncomputable section

open Idealize.ShloMosaic Idealize.ShloMosaic.TcCoe Idealize.SL.Sem

namespace Cert.KernelIdeal.Lanes
open Cert.KernelIdeal Cert.KernelIdeal.Gen Cert.KernelIdeal.Block Cert.Ema

/-- The lane that holds the other part (real or imaginary) of the same complex number. -/
def partner (l : Fin 514) : Fin 514 := if l.val % 2 = 0 then ⟨(l.val + 1) % 514, Nat.mod_lt _ (by decide)⟩ else ⟨l.val - 1, by omega⟩

/-- The mask of the block marks the even lanes. -/
theorem mask_apply (r : Fin 16) (t : Fin 8) (l : Fin 514) : k0_pay8 (ix3 r t l) = BitVec.ofBool (decide (l.val % 2 = 0)) := by
  pointwise [k0_pay8]
  revert l
  decide +kernel

/-- A chunk of a block, at an index. -/
theorem chunk_apply (x : Vec Ideal S16x5x8x514 .f32) (k : Fin 5) (r : Fin 16) (t : Fin 8) (l : Fin 514) :
    chunk x k (ix3 r t l) = x (ix4 r k t l) := by
  have h : ∀ v : FVec Ideal S16x1x8x514 .f32, shapeCast S16x8x514 v shapeCasts_S16x1x8x514_S16x8x514 (ix3 r t l) = v (ix4 r 0 t l) := by
    intro v
    pointwise
  refine (h _).trans ?_
  exact View.ld_unit_apply_of _ _ _ _ _ _ (by
    intro a
    match a with
    | 0 => simp [ix4]
    | 1 => simp [ix4]
    | 2 => simp [ix4]
    | 3 => simp [ix4])

/-- A row of a chunk, at an index. -/
theorem row_apply (p : FVec Ideal S16x8x514 .f32) (t : Fin 8) (r : Fin 16) (l : Fin 514) :
    row p t (ix2 r l) = p (ix3 r t l) := by
  pointwise [row]

/-- The power at a lane is that lane's square plus its partner lane's. -/
theorem power_apply (v : FVec Ideal S16x8x514 .f32) (r : Fin 16) (t : Fin 8) (l : Fin 514) :
    power v (ix3 r t l) = v (ix3 r t l) * v (ix3 r t l) + v (ix3 r t (partner l)) * v (ix3 r t (partner l)) := by
  pointwise [power, k0_pay11]
  rw [mask_apply]
  rcases Nat.mod_two_eq_zero_or_one l.val with h | h
  · have h1 : l.val < 513 := by omega
    have hp : partner l = ⟨1 + l.val, by omega⟩ := by
      unfold partner
      rw [if_pos h]
      exact Fin.ext (by simp only; omega)
    simp only [h, h1, hp, decide_true, dite_true]
    rfl
  · have h1 : ¬ l.val < 1 := by omega
    have hp : partner l = ⟨l.val - 1, by omega⟩ := by
      unfold partner
      rw [if_neg (by omega)]
    simp only [h, h1, hp, decide_false, dite_false, Nat.one_ne_zero]
    rfl

/-- One step of the recursion at a lane. -/
theorem next_apply (ar s p : FVec Ideal S16x514 .f32) (r : Fin 16) (l : Fin 514) :
    next ar s p (ix2 r l) = s (ix2 r l) * (1 - Ideal.logistic (ar (ix2 r l))) + p (ix2 r l) * Ideal.logistic (ar (ix2 r l)) := by
  pointwise [next, k0_pay4, k0_pay5]

/-- The power of step `n` of a block at row `r`, lane `l`. -/
def pw (x : Vec Ideal S16x5x8x514 .f32) (r : Fin 16) (l : Fin 514) (n : ℕ) : EReal :=
  x (ix4 r (chunkOf n) (rowOf n) l) * x (ix4 r (chunkOf n) (rowOf n) l)
    + x (ix4 r (chunkOf n) (rowOf n) (partner l)) * x (ix4 r (chunkOf n) (rowOf n) (partner l))

/-- The state after `n` steps of a block is, lane by lane, the moving average of the lane's powers. -/
theorem state_apply (x : Vec Ideal S16x5x8x514 .f32) (ar s : Vec Ideal S16x514 .f32) (n : ℕ) (r : Fin 16) (l : Fin 514) :
    state x ar s n (ix2 r l) = ema (Ideal.logistic (ar (ix2 r l))) (s (ix2 r l)) (pw x r l) n := by
  induction n with
  | zero => rfl
  | succ n ih =>
    show next ar (state x ar s n) (row (power (chunk x (chunkOf n))) (rowOf n)) (ix2 r l) = _
    rw [next_apply, ih, row_apply, power_apply, chunk_apply, chunk_apply, ema_succ]
    rfl

/-- The output row of step `n` of a block at a lane. -/
theorem outRow_apply (x : Vec Ideal S16x5x8x514 .f32) (ar w b s : Vec Ideal S16x514 .f32) (n : ℕ) (r : Fin 16) (l : Fin 514) :
    outRow x ar w b s n (ix2 r l) = Ideal.div (x (ix4 r (chunkOf n) (rowOf n) l))
      (Ideal.sqrt (ema (Ideal.logistic (ar (ix2 r l))) (s (ix2 r l)) (pw x r l) (n + 1)) + Ideal.ofBits .f32 0x322BCC77#32)
        * w (ix2 r l) + b (ix2 r l) := by
  rw [← state_apply]
  unfold outRow
  generalize state x ar s (n + 1) = S
  rw [← chunk_apply x, ← row_apply (chunk x (chunkOf n))]
  generalize row (chunk x (chunkOf n)) (rowOf n) = X
  pointwise

/-- The output rows of a block's forty steps, each at its chunk and row. -/
def placed (x : Vec Ideal S16x5x8x514 .f32) (ar w b s : Vec Ideal S16x514 .f32) : Vec Ideal S16x5x8x514 .f32 :=
  fun i => outRow x ar w b s (8 * (i 1).val + (i 2).val) (ix2 (i 0) (i 3))

/-- `placed` at an index given by its coordinates. -/
theorem placed_of (x : Vec Ideal S16x5x8x514 .f32) (ar w b s : Vec Ideal S16x514 .f32) (i : S16x5x8x514.Idx) (n : ℕ) (r : Fin 16) (l : Fin 514)
    (hn : 8 * (i 1).val + (i 2).val = n) (hr : (i 0).val = r.val) (hl : (i 3).val = l.val) :
    placed x ar w b s i = outRow x ar w b s n (ix2 r l) := by
  subst hn
  unfold placed
  have h0 : i 0 = r := Fin.ext hr
  have h3 : i 3 = l := Fin.ext hl
  rw [h0, h3]

/-- The store of step `n` puts the output row of step `n` at the place of that step. -/
theorem piece_apply (x : Vec Ideal S16x5x8x514 .f32) (ar w b s : Vec Ideal S16x514 .f32) (n : ℕ) (hn : n < 40) (y : S16x1x1x514.Idx) :
    shapeCast S16x1x1x514 (outRow x ar w b s n) shapeCasts_S16x514_S16x1x1x514 y =
      placed x ar w b s ((Rect.unit (s := S16x5x8x514) ![0, (chunkOf n).val, (rowOf n).val, 0] S16x1x1x514.size (piece_fits _ _)).emb y) := by
  have hc : ∀ v : FVec Ideal S16x514 .f32, shapeCast S16x1x1x514 v shapeCasts_S16x514_S16x1x1x514 y = v (ix2 (y 0) (y 3)) := by
    intro v
    pointwise
  rw [hc]
  have e := Rect.idx_unit_val (s := S16x5x8x514) ![0, (chunkOf n).val, (rowOf n).val, 0] S16x1x1x514.size (piece_fits _ _) y
  have b1 : (y 1).val = 0 := Nat.lt_one_iff.mp (y 1).isLt
  have b2 : (y 2).val = 0 := Nat.lt_one_iff.mp (y 2).isLt
  refine (placed_of x ar w b s _ n (y 0) (y 3) ?_ ?_ ?_).symm
  · refine (congrArg₂ (fun p q => 8 * p + q) (e 1) (e 2)).trans ?_
    show 8 * (n / 8 % 5 + (y 1).val) + (n % 8 + (y 2).val) = n
    omega
  · exact (e 0).trans (Nat.zero_add _)
  · exact (e 3).trans (Nat.zero_add _)

/-- What the stores of a block leave in the output block: at time chunk `k`, row `t` the output row of step `8 k + t`. -/
theorem canon_pieces (x : Vec Ideal S16x5x8x514 .f32) (ar w b s : Vec Ideal S16x514 .f32) (r : Fin 16) (k : Fin 5) (t : Fin 8) (l : Fin 514) :
    View.canon (pieces x ar w b s 40) (ix4 r k t l) = outRow x ar w b s (8 * k.val + t.val) (ix2 r l) := by
  have hval : ∀ n, n ≤ 40 → ∀ p ∈ pieces x ar w b s n, ∀ y : p.1.shape.Idx,
      p.2 y = placed x ar w b s (p.1.emb y) := by
    intro n
    induction n with
    | zero => intro _ p hp; exact absurd hp (List.not_mem_nil)
    | succ n ih =>
      intro hn p hp y
      rcases List.mem_cons.mp hp with rfl | hp
      · exact piece_apply x ar w b s n (by omega) y
      · exact ih (by omega) p hp y
  have hmem : ∀ n j, j < n → (⟨Rect.unit (s := S16x5x8x514) ![0, (chunkOf j).val, (rowOf j).val, 0] S16x1x1x514.size (piece_fits _ _),
      shapeCast S16x1x1x514 (outRow x ar w b s j) shapeCasts_S16x514_S16x1x1x514⟩ : View.Piece (Elt Ideal) S16x5x8x514 .f32) ∈ pieces x ar w b s n := by
    intro n
    induction n with
    | zero => intro j hj; omega
    | succ n ih =>
      intro j hj
      rcases Nat.lt_succ_iff_lt_or_eq.mp hj with h | rfl
      · exact List.mem_cons_of_mem _ (ih j h)
      · exact List.mem_cons_self
  refine View.canon_apply_of_pieces (placed x ar w b s) _ (hval 40 le_rfl) (ix4 r k t l) ⟨_, hmem 40 (8 * k.val + t.val) (by omega), ?_⟩
  rw [Rect.mem_set_unit]
  intro a
  match a with
  | 0 => exact ⟨Nat.zero_le _, by simp [ix4]⟩
  | 1 => simp [ix4]; omega
  | 2 => simp [ix4]; omega
  | 3 => exact ⟨Nat.zero_le _, by simp [ix4]⟩

end Cert.KernelIdeal.Lanes
end
-- ==== Proof.Average.lean ====
/-
  What the two result arrays of the kernel hold, as closed forms over the arrays that it reads: the moving average of
  every row and lane after n of the 1000 steps, and the normalized values.
-/
module

public import proofs.«01_k».proof.Proof.Lanes

@[expose] public section

set_option maxRecDepth 16384

noncomputable section

open Idealize.ShloMosaic Idealize.ShloMosaic.TcCoe Idealize.SL.Sem

namespace Cert.KernelIdeal.Average
open Cert.KernelIdeal Cert.KernelIdeal.Gen Cert.KernelIdeal.Block Cert.KernelIdeal.Lanes Cert.Ema

/-- The place of time step `n` in the array of 125 chunks of eight steps. -/
abbrev at4 (p : Fin 32) (n : ℕ) (l : Fin 514) : S32x125x8x514.Idx :=
  ix4 p ⟨n / 8 % 125, Nat.mod_lt _ (by decide)⟩ ⟨n % 8, Nat.mod_lt _ (by decide)⟩ l

/-- The power of time step `n` at row `p`, lane `l` of the whole array. -/
def pwr (X : Vec Ideal S32x125x8x514 .f32) (p : Fin 32) (l : Fin 514) (n : ℕ) : EReal :=
  X (at4 p n l) * X (at4 p n l) + X (at4 p n (partner l)) * X (at4 p n (partner l))

/-- The moving average of row `p`, lane `l` after `n` time steps. -/
def avg (X : Vec Ideal S32x125x8x514 .f32) (A S : Vec Ideal S32x514 .f32) (p : Fin 32) (l : Fin 514) (n : ℕ) : EReal :=
  ema (Ideal.logistic (A (ix2 p l))) (S (ix2 p l)) (pwr X p l) n

/-- The normalized value of time step `n` at row `p`, lane `l`. -/
def nrm (X : Vec Ideal S32x125x8x514 .f32) (A W B S : Vec Ideal S32x514 .f32) (p : Fin 32) (l : Fin 514) (n : ℕ) : EReal :=
  Ideal.div (X (at4 p n l)) (Ideal.sqrt (avg X A S p l (n + 1)) + Ideal.ofBits .f32 0x322BCC77#32) * W (ix2 p l) + B (ix2 p l)

/-- The first result array: the normalized values. -/
def yArr (X : Vec Ideal S32x125x8x514 .f32) (A W B S : Vec Ideal S32x514 .f32) : Vec Ideal S32x125x8x514 .f32 :=
  fun i => nrm X A W B S (i 0) (i 3) (8 * (i 1).val + (i 2).val)

/-- The second result array: the moving average after all 1000 steps. -/
def sArr (X : Vec Ideal S32x125x8x514 .f32) (A S : Vec Ideal S32x514 .f32) : Vec Ideal S32x514 .f32 :=
  fun i => avg X A S (i 0) (i 1) 1000

/-- The first result array at an index given by its coordinates. -/
theorem yArr_of (X : Vec Ideal S32x125x8x514 .f32) (A W B S : Vec Ideal S32x514 .f32) (i : S32x125x8x514.Idx) (p : Fin 32) (l : Fin 514) (n : ℕ)
    (h0 : (i 0).val = p.val) (hn : 8 * (i 1).val + (i 2).val = n) (h3 : (i 3).val = l.val) : yArr X A W B S i = nrm X A W B S p l n := by
  subst hn
  have e0 : i 0 = p := Fin.ext h0
  have e3 : i 3 = l := Fin.ext h3
  unfold yArr
  rw [e0, e3]

/-- The second result array at an index given by its coordinates. -/
theorem sArr_of (X : Vec Ideal S32x125x8x514 .f32) (A S : Vec Ideal S32x514 .f32) (i : S32x514.Idx) (p : Fin 32) (l : Fin 514)
    (h0 : (i 0).val = p.val) (h1 : (i 1).val = l.val) : sArr X A S i = avg X A S p l 1000 := by
  have e0 : i 0 = p := Fin.ext h0
  have e1 : i 1 = l := Fin.ext h1
  unfold sArr
  rw [e0, e1]

variable (x : Vec Ideal S16x5x8x514 .f32) (ar w b s : Vec Ideal S16x514 .f32)
  (X : Vec Ideal S32x125x8x514 .f32) (A W B S : Vec Ideal S32x514 .f32) (r : Fin 16) (p : Fin 32) (l : Fin 514) (q : ℕ)

/-- Block `q` of a row holds time steps `40 q` to `40 q + 39`. -/
def IsBlock : Prop := ∀ (k : Fin 5) (t : Fin 8) (l : Fin 514), x (ix4 r k t l) = X (at4 p (40 * q + (8 * k.val + t.val)) l)

/-- The steps of block `q` read the powers of time steps `40 q + n`. -/
theorem pw_block (hx : IsBlock x X r p q) (n : ℕ) (hn : n < 40) : pw x r l n = pwr X p l (40 * q + n) := by
  have e : 40 * q + (8 * (n / 8 % 5) + n % 8) = 40 * q + n := by omega
  unfold pw pwr
  rw [hx, hx]
  simp only [e]

/-- A block that starts from the average after its first `40 q` time steps goes on with the average. -/
theorem state_block (hx : IsBlock x X r p q) (ha : ar (ix2 r l) = A (ix2 p l)) (hs : s (ix2 r l) = avg X A S p l (40 * q)) (n : ℕ) (hn : n ≤ 40) :
    state x ar s n (ix2 r l) = avg X A S p l (40 * q + n) := by
  rw [state_apply, ha, hs]
  unfold avg
  rw [ema_add]
  exact ema_congr _ _ _ _ _ fun k hk => pw_block x X r p l q hx k (by omega)

/-- What such a block stores in the output block. -/
theorem canon_block (hx : IsBlock x X r p q) (ha : ar (ix2 r l) = A (ix2 p l)) (hs : s (ix2 r l) = avg X A S p l (40 * q))
    (hw : w (ix2 r l) = W (ix2 p l)) (hb : b (ix2 r l) = B (ix2 p l)) (k : Fin 5) (t : Fin 8) :
    View.canon (pieces x ar w b s 40) (ix4 r k t l) = nrm X A W B S p l (40 * q + (8 * k.val + t.val)) := by
  have hk : chunkOf (8 * k.val + t.val) = k := Fin.ext (by simp only; omega)
  have ht : rowOf (8 * k.val + t.val) = t := Fin.ext (by simp only; omega)
  rw [canon_pieces, outRow_apply, ← state_apply, state_block x ar s X A S r p l q hx ha hs _ (by omega), hw, hb, hk, ht, hx]
  rfl

end Cert.KernelIdeal.Average
end
-- ==== Proof.Arrays.lean ====
/-
  The two result arrays of the kernel's pipeline after the run: the grid point t works on row group t / 25 and time
  steps 40 (t % 25) to 40 (t % 25) + 39, the state carried from point to point is the moving average so far.
-/
module

public import proofs.«01_k».proof.Proof.Average

@[expose] public section

set_option maxRecDepth 16384

noncomputable section

open Idealize.ShloMosaic Idealize.ShloMosaic.TcCoe Idealize.SL.Sem
open Idealize.ShloMosaic.Pipeline (Dat)

namespace Cert.KernelIdeal.Arrays
open Cert.KernelIdeal Cert.KernelIdeal.Gen Cert.KernelIdeal.Block Cert.KernelIdeal.Lanes Cert.KernelIdeal.Average Cert.Ema

variable (m : (ℓ : Loc nD τ sig) → Buf (Elt Ideal) ℓ)

/-- Which block each window is at, at every grid point. -/
theorem idx : ∀ t : Fin cfg0.N, win0_0.index t = ![t.val / 25, t.val % 25, 0, 0] ∧ win0_1.index t = ![t.val / 25, 0]
    ∧ win0_2.index t = ![t.val / 25, 0] ∧ win0_3.index t = ![t.val / 25, 0] ∧ win0_4.index t = ![t.val / 25, 0]
    ∧ win0_5.index t = ![t.val / 25, t.val % 25, 0, 0] ∧ win0_6.index t = ![t.val / 25, 0] ∧ t.val / 25 < 2 ∧ t.val < 50 :=
  (by decide +kernel : ∀ t : Fin grid0.N, _)

/-- The arrays that the pipeline reads, as the host lines before it leave them. -/
def xA (c : Dev nD) : Vec Ideal S32x125x8x514 .f32 := V m c main_v0
def aA (c : Dev nD) : Vec Ideal S32x514 .f32 := V m c main_v6
def wA (c : Dev nD) : Vec Ideal S32x514 .f32 := V m c main_v12
def bA (c : Dev nD) : Vec Ideal S32x514 .f32 := V m c main_v18
def sA (c : Dev nD) : Vec Ideal S32x514 .f32 := V m c main_v21

/-- The blocks of the five inputs at grid point `t`. -/
def xB (c : Dev nD) (t : Fin cfg0.N) : Vec Ideal S16x5x8x514 .f32 := iblk m c 0 t
def aB (c : Dev nD) (t : Fin cfg0.N) : Vec Ideal S16x514 .f32 := iblk m c 1 t
def wB (c : Dev nD) (t : Fin cfg0.N) : Vec Ideal S16x514 .f32 := iblk m c 2 t
def bB (c : Dev nD) (t : Fin cfg0.N) : Vec Ideal S16x514 .f32 := iblk m c 3 t
def sB (c : Dev nD) (t : Fin cfg0.N) : Vec Ideal S16x514 .f32 := iblk m c 4 t

/-- The row of the whole arrays that row `r` of the blocks at point `t` is. -/
def rowAt (t : Fin cfg0.N) (r : Fin 16) : Fin 32 := ⟨16 * (t.val / 25) + r.val, by have := (idx t).2.2.2.2.2.2.2.1; omega⟩

/-- The block of x at point `t` is block `t % 25` of its row group. -/
theorem xB_apply (c : Dev nD) (t : Fin cfg0.N) (r : Fin 16) : IsBlock (xB m c t) (xA m c) r (rowAt t r) (t.val % 25) := by
  intro k tt l
  unfold xB xA rowAt at4
  blk_ext [iblk, idx t]

/-- The block of the weights alpha at point `t`. -/
theorem aB_apply (c : Dev nD) (t : Fin cfg0.N) (r : Fin 16) (l : Fin 514) : aB m c t (ix2 r l) = aA m c (ix2 (rowAt t r) l) := by
  unfold aB aA rowAt
  blk_ext [iblk, idx t]

/-- The block of the scales at point `t`. -/
theorem wB_apply (c : Dev nD) (t : Fin cfg0.N) (r : Fin 16) (l : Fin 514) : wB m c t (ix2 r l) = wA m c (ix2 (rowAt t r) l) := by
  unfold wB wA rowAt
  blk_ext [iblk, idx t]

/-- The block of the biases at point `t`. -/
theorem bB_apply (c : Dev nD) (t : Fin cfg0.N) (r : Fin 16) (l : Fin 514) : bB m c t (ix2 r l) = bA m c (ix2 (rowAt t r) l) := by
  unfold bB bA rowAt
  blk_ext [iblk, idx t]

/-- The block of the start states at point `t`. -/
theorem sB_apply (c : Dev nD) (t : Fin cfg0.N) (r : Fin 16) (l : Fin 514) : sB m c t (ix2 r l) = sA m c (ix2 (rowAt t r) l) := by
  unfold sB sA rowAt
  blk_ext [iblk, idx t]

/-- The moving average of this run's row `p`, lane `l` after `n` time steps. -/
abbrev av (c : Dev nD) (p : Fin 32) (l : Fin 514) (n : ℕ) : EReal := avg (xA m c) (aA m c) (sA m c) p l n

/-- The state that the block at point `t` starts from: the start states at the first block of a row group, what the
    point before left at the others. -/
def start (c : Dev nD) (t : Fin cfg0.N) : Vec Ideal S16x514 .f32 :=
  if t.val % 25 = 0 then sB m c t else (outsAt0 m c (t.val - 1) (Nat.lt_of_le_of_lt (Nat.sub_le _ _) t.isLt)).2.2

/-- Point `t` leaves the output block, the state block and the carried state of its forty steps from `start`. -/
theorem outs_eq (c : Dev nD) (t : Fin cfg0.N) :
    (outsAt0 m c t.val t.isLt).1 = View.canon (pieces (xB m c t) (aB m c t) (wB m c t) (bB m c t) (start m c t) 40)
    ∧ (outsAt0 m c t.val t.isLt).2.1 = state (xB m c t) (aB m c t) (start m c t) 40
    ∧ (outsAt0 m c t.val t.isLt).2.2 = state (xB m c t) (aB m c t) (start m c t) 40 := by
  unfold start
  by_cases h0 : t.val % 25 = 0
  · rw [outsAt0_A m c t h0, if_pos h0]
    refine ⟨?_, ?_, ?_⟩ <;> dsimp only
    · have h := out_A_5 c t h0 (xB m c t) (aB m c t) (wB m c t) (bB m c t) (sB m c t)
      exact h
    · have h := out_A_6 c t h0 (xB m c t) (aB m c t) (wB m c t) (bB m c t) (sB m c t)
      exact h
    · have h := carried_A_0 c t h0 (xB m c t) (aB m c t) (wB m c t) (bB m c t) (sB m c t)
      exact h
  · rw [outsAt0_B m c t h0, if_neg h0]
    refine ⟨?_, ?_, ?_⟩ <;> dsimp only
    · have h := out_B_5 c t h0 (xB m c t) (aB m c t) (wB m c t) (bB m c t) (sB m c t) (outsAt0 m c (t.val - 1) (Nat.lt_of_le_of_lt (Nat.sub_le _ _) t.isLt)).2.2
      exact h
    · have h := out_B_6 c t h0 (xB m c t) (aB m c t) (wB m c t) (bB m c t) (sB m c t) (outsAt0 m c (t.val - 1) (Nat.lt_of_le_of_lt (Nat.sub_le _ _) t.isLt)).2.2
      exact h
    · have h := carried_B_0 c t h0 (xB m c t) (aB m c t) (wB m c t) (bB m c t) (sB m c t) (outsAt0 m c (t.val - 1) (Nat.lt_of_le_of_lt (Nat.sub_le _ _) t.isLt)).2.2
      exact h

/-- A point that starts from the average so far carries on the average. -/
theorem carried_step (c : Dev nD) (t : Fin cfg0.N) (r : Fin 16) (l : Fin 514)
    (h : start m c t (ix2 r l) = av m c (rowAt t r) l (40 * (t.val % 25))) :
    (outsAt0 m c t.val t.isLt).2.2 (ix2 r l) = av m c (rowAt t r) l (40 * (t.val % 25) + 40) := by
  rw [(outs_eq m c t).2.2]
  exact state_block _ _ _ _ _ _ r _ l _ (xB_apply m c t r) (aB_apply m c t r l) h 40 le_rfl

/-- Every point starts from the average after the time steps before it. -/
theorem start_eq (c : Dev nD) (n : ℕ) (hn : n < cfg0.N) (r : Fin 16) (l : Fin 514) :
    start m c ⟨n, hn⟩ (ix2 r l) = av m c (rowAt ⟨n, hn⟩ r) l (40 * (n % 25)) := by
  induction n with
  | zero =>
    unfold start
    rw [if_pos (by rfl)]
    exact sB_apply m c ⟨0, hn⟩ r l
  | succ n ih =>
    by_cases h0 : (n + 1) % 25 = 0
    · unfold start
      rw [if_pos h0, h0]
      exact sB_apply m c ⟨n + 1, hn⟩ r l
    · have hr : rowAt ⟨n + 1, hn⟩ r = rowAt ⟨n, Nat.lt_of_succ_lt hn⟩ r := Fin.ext (by unfold rowAt; simp only; omega)
      have hs : 40 * ((n + 1) % 25) = 40 * (n % 25) + 40 := by omega
      rw [hr, hs]
      refine Eq.trans ?_ (carried_step m c ⟨n, Nat.lt_of_succ_lt hn⟩ r l (ih _))
      unfold start
      rw [if_neg h0]
      rfl

/-- What point `t` stores at an index of the output block is the first result array where that index sits. -/
theorem point5 (c : Dev nD) (t : Fin cfg0.N) (r : Fin 16) (k : Fin 5) (tt : Fin 8) (l : Fin 514) (i : S32x125x8x514.Idx)
    (h0 : (i 0).val = t.val / 25 * 16 + r.val) (h1 : (i 1).val = t.val % 25 * 5 + k.val) (h2 : (i 2).val = tt.val) (h3 : (i 3).val = l.val) :
    View.canon (pieces (xB m c t) (aB m c t) (wB m c t) (bB m c t) (start m c t) 40) (ix4 r k tt l)
      = yArr (xA m c) (aA m c) (wA m c) (bA m c) (sA m c) i := by
  rw [canon_block _ _ _ _ _ _ _ _ _ _ r (rowAt t r) l _ (xB_apply m c t r) (aB_apply m c t r l) (start_eq m c t.val t.isLt r l)
    (wB_apply m c t r l) (bB_apply m c t r l)]
  exact (yArr_of _ _ _ _ _ i _ l _ (by unfold rowAt; simp only; omega) (by omega) h3).symm

/-- What the last point of a row group stores in the state block is the second result array where it sits. -/
theorem point6 (c : Dev nD) (t : Fin cfg0.N) (ht : t.val % 25 = 24) (r : Fin 16) (l : Fin 514) (i : S32x514.Idx)
    (h0 : (i 0).val = t.val / 25 * 16 + r.val) (h1 : (i 1).val = l.val) :
    state (xB m c t) (aB m c t) (start m c t) 40 (ix2 r l) = sArr (xA m c) (aA m c) (sA m c) i := by
  rw [state_block _ _ _ _ _ _ r (rowAt t r) l _ (xB_apply m c t r) (aB_apply m c t r l) (start_eq m c t.val t.isLt r l) 40 le_rfl, ht]
  exact (sArr_of _ _ _ i _ l (by unfold rowAt; simp only; omega) h1).symm

/-- The first result array after the run. -/
theorem final5 (c : Dev nD) : (dats m 0 c).arrAt 5 (cfgs 0).N = yArr (xA m c) (aA m c) (wA m c) (bA m c) (sA m c) := by
  refine (dats m 0 c).arrAt_eq_of_covers 5 _ (by decide +kernel) fun t hf y => ?_
  blk_simp
  rw [after0_5, (outs_eq m c t).1]
  obtain ⟨r, k, tt, l, rfl⟩ : ∃ (r : Fin 16) (k : Fin 5) (tt : Fin 8) (l : Fin 514), y = ix4 r k tt l := ⟨y 0, y 1, y 2, y 3, eq_ix4 y⟩
  refine point5 m c t r k tt l _ ?_ ?_ ?_ ?_
  all_goals blk_simp [idx t]

/-- The second result array after the run. -/
theorem final6 (c : Dev nD) : (dats m 0 c).arrAt 6 (cfgs 0).N = sArr (xA m c) (aA m c) (sA m c) := by
  refine (dats m 0 c).arrAt_eq_of_covers 6 _ (by decide +kernel) fun t hf y => ?_
  blk_simp
  rw [after0_6, (outs_eq m c t).2.1]
  obtain ⟨r, l, rfl⟩ : ∃ (r : Fin 16) (l : Fin 514), y = ix2 r l := ⟨y 0, y 1, eq_ix2 y⟩
  refine point6 m c t ((flush0_6 t).mp hf) r l _ ?_ ?_
  all_goals blk_simp [idx t]

end Cert.KernelIdeal.Arrays
end
-- ==== Proof.Entry.lean ====
/-
  What the arrays that the pipeline reads hold, in the program's arguments: the host lines before the pipeline only
  move data (reshapes and broadcasts). Row 2 b + c is channel c of batch entry b, lane 2 f + d is part d (real or
  imaginary) of frequency f.
-/
module

public import proofs.«01_k».proof.Proof.Arrays
public import Idealize.ShloMosaic.Lib.StableHlo.ReadAt

@[expose] public section

set_option maxRecDepth 16384

noncomputable section

open Idealize.ShloMosaic Idealize.ShloMosaic.TcCoe Idealize.SL.Sem

namespace Cert.KernelIdeal.Entry
open Cert.KernelIdeal Cert.KernelIdeal.Gen Cert.KernelIdeal.Arrays

variable (m : (ℓ : Loc nD τ sig) → Buf (Elt Ideal) ℓ)

/-- Batch entry and channel of a row. -/
abbrev batch (p : Fin 32) : Fin 16 := ⟨p.val / 2, by omega⟩
abbrev chan (p : Fin 32) : Fin 2 := ⟨p.val % 2, Nat.mod_lt _ (by decide)⟩
/-- Frequency and part of a lane. -/
abbrev freq (l : Fin 514) : Fin 257 := ⟨l.val / 2, by omega⟩
abbrev part (l : Fin 514) : Fin 2 := ⟨l.val % 2, Nat.mod_lt _ (by decide)⟩

/-- The argument arrays of the run at their literal types. -/
def xArg (c : Dev nD) : Vec Ideal S16x2x1000x257x2 .f32 := m ((c : Thread nD τ).loc main_arg0)
def wArg (c : Dev nD) : Vec Ideal S1x2x1x257x1 .f32 := m ((c : Thread nD τ).loc main_arg1)
def bArg (c : Dev nD) : Vec Ideal S1x2x1x257x1 .f32 := m ((c : Thread nD τ).loc main_arg2)
def aArg (c : Dev nD) : Vec Ideal S1x2x257x1 .f32 := m ((c : Thread nD τ).loc main_arg3)
def sArg (c : Dev nD) : Vec Ideal S16x2x257x1 .f32 := m ((c : Thread nD τ).loc main_arg4)

/-- The host lines before the pipeline, as one list. -/
theorem entry_eq (c : Dev nD) (b : Ref sig .tc) : V m c b = StableHlo.after hostOps0 (fun b => m (c, b)) (Proc.devRef .tc b) :=
  congrArg (fun ops => StableHlo.after ops (fun b => m (c, b)) (Proc.devRef .tc b)) (List.append_nil (hostOps0 : List (HloOp τ sig (Elt Ideal))))

/-- The array of chunks of eight time steps holds x with batch and channel in one row number, frequency and part in
    one lane number. -/
theorem xA_eq (c : Dev nD) : xA m c = fun i => xArg m c (ix5 (batch (i 0)) (chan (i 0))
    ⟨(i 1).val * 8 + (i 2).val, by have h1 : (i 1).val < 125 := (i 1).isLt; have h2 : (i 2).val < 8 := (i 2).isLt; omega⟩ (freq (i 3)) (part (i 3))) := by
  refine (entry_eq m c main_v0).trans ?_
  after_reads_simp
  funext j
  clean_types
  pointwise
  rfl

/-- Every row of the weights alpha that the pipeline reads holds its channel's, at both parts of a frequency. -/
theorem aA_eq (c : Dev nD) : aA m c = fun i => aArg m c (ix4 0 (chan (i 0)) (freq (i 1)) 0) := by
  refine (entry_eq m c main_v6).trans ?_
  after_reads_simp
  funext j
  clean_types
  pointwise
  rfl

/-- Every row of the scales that the pipeline reads holds its channel's, at both parts of a frequency. -/
theorem wA_eq (c : Dev nD) : wA m c = fun i => wArg m c (ix5 0 (chan (i 0)) 0 (freq (i 1)) 0) := by
  refine (entry_eq m c main_v12).trans ?_
  after_reads_simp
  funext j
  clean_types
  pointwise
  rfl

/-- Every row of the biases that the pipeline reads holds its channel's, at both parts of a frequency. -/
theorem bA_eq (c : Dev nD) : bA m c = fun i => bArg m c (ix5 0 (chan (i 0)) 0 (freq (i 1)) 0) := by
  refine (entry_eq m c main_v18).trans ?_
  after_reads_simp
  funext j
  clean_types
  pointwise
  rfl

/-- Every row of the start states that the pipeline reads holds its channel's, at both parts of a frequency. -/
theorem sA_eq (c : Dev nD) : sA m c = fun i => sArg m c (ix4 (batch (i 0)) (chan (i 0)) (freq (i 1)) 0) := by
  refine (entry_eq m c main_v21).trans ?_
  after_reads_simp
  funext j
  clean_types
  pointwise
  rfl

end Cert.KernelIdeal.Entry
end
-- ==== Proof.Tail.lean ====
/-
  The host lines after the pipeline: a reshape of the first result array; every second lane of the second one, then a
  reshape. Both only move data.
-/
module

public import proofs.«01_k».proof.Proof.Entry

@[expose] public section

set_option maxRecDepth 16384

noncomputable section

open Idealize.ShloMosaic Idealize.ShloMosaic.TcCoe Idealize.SL.Sem

namespace Cert.KernelIdeal.Tail
open Cert.KernelIdeal Cert.KernelIdeal.Gen Cert.KernelIdeal.Arrays Cert.KernelIdeal.Average

/-- The row of a batch entry and a channel; the chunk and the step in it of a time step; the lane of a frequency and a part. -/
abbrev rowOf (b : Fin 16) (c : Fin 2) : Fin 32 := ⟨b.val * 2 + c.val, by omega⟩
abbrev chunkOf (n : Fin 1000) : Fin 125 := ⟨n.val / 8, by omega⟩
abbrev stepOf (n : Fin 1000) : Fin 8 := ⟨n.val % 8, by omega⟩
abbrev laneOf (f : Fin 257) (d : Fin 2) : Fin 514 := ⟨f.val * 2 + d.val, by omega⟩

/-- The lane of the first part of a frequency. -/
abbrev evenLane (f : Fin 257) : Fin 514 := ⟨2 * f.val, by omega⟩

/-- The first result, from what the pipeline's first result array holds. -/
theorem tail_y (W : Valuation τ sig (Elt Ideal)) (Y : Vec Ideal S32x125x8x514 .f32) (hY : W (Proc.devRef .tc main_v22_0) = Y) :
    StableHlo.after hostOps1 W (Proc.devRef .tc main_v23) = (fun i => Y (ix4 (rowOf (i 0) (i 1)) (chunkOf (i 2)) (stepOf (i 2)) (laneOf (i 3) (i 4))) : Vec Ideal S16x2x1000x257x2 .f32) := by
  after_reads_simp
  rw [hY]
  funext j
  clean_types
  pointwise

/-- The second result, from what the pipeline's second result array holds. -/
theorem tail_s (W : Valuation τ sig (Elt Ideal)) (Y : Vec Ideal S32x514 .f32) (hY : W (Proc.devRef .tc main_v22_1) = Y) :
    StableHlo.after hostOps1 W (Proc.devRef .tc main_v25) = (fun i => Y (ix2 (rowOf (i 0) (i 1)) (evenLane (i 2))) : Vec Ideal S16x2x257x1 .f32) := by
  after_reads_simp
  rw [hY]
  funext j
  clean_types
  pointwise

end Cert.KernelIdeal.Tail
end
-- ==== Proof.Spec.lean ====
/-
  The mathematics of the problem over the five argument arrays, index by index: for every batch entry, channel and
  frequency the power of x is averaged over time with the weight sigmoid alpha, from the start state; x is divided by
  the root of the average, scaled and shifted.
-/
module

public import proofs.«01_k».proof.Proof.Ema

@[expose] public section

noncomputable section

open Idealize.ShloMosaic

namespace Cert.Spec
open Cert.Ema

/-- The shapes of the arguments: x, the scales and biases, the weights alpha, the start states. -/
abbrev SX : Shape := ⟨5, ![16, 2, 1000, 257, 2]⟩
abbrev SW : Shape := ⟨5, ![1, 2, 1, 257, 1]⟩
abbrev SA : Shape := ⟨4, ![1, 2, 257, 1]⟩
abbrev SS : Shape := ⟨4, ![16, 2, 257, 1]⟩

/-- Time step `n` as an index of the time axis. -/
abbrev time (n : ℕ) : Fin 1000 := ⟨n % 1000, Nat.mod_lt _ (by decide)⟩

variable (x : Vec Ideal SX .f32) (w bi : Vec Ideal SW .f32) (al : Vec Ideal SA .f32) (s : Vec Ideal SS .f32)
  (b : Fin 16) (c : Fin 2) (f : Fin 257)

/-- The power of x at time step `n`: the squares of its two parts, summed. -/
def power (n : ℕ) : EReal :=
  x (ix5 b c (time n) f 0) * x (ix5 b c (time n) f 0) + x (ix5 b c (time n) f 1) * x (ix5 b c (time n) f 1)

/-- The moving average of the power after `n` time steps. -/
def smooth (n : ℕ) : EReal := ema (Ideal.logistic (al (ix4 0 c f 0))) (s (ix4 b c f 0)) (power x b c f) n

/-- The normalized value of part `d` at time step `n`. -/
def value (n : ℕ) (d : Fin 2) : EReal :=
  Ideal.div (x (ix5 b c (time n) f d)) (Ideal.sqrt (smooth x al s b c f (n + 1)) + Ideal.ofBits .f32 0x322BCC77#32)
    * w (ix5 0 c 0 f 0) + bi (ix5 0 c 0 f 0)

/-- The first result: the normalized values. -/
def normalized : Vec Ideal SX .f32 := fun i => value x w bi al s (i 0) (i 1) (i 3) (i 2).val (i 4)

/-- The second result: the average after all time steps. -/
def last : Vec Ideal SS .f32 := fun i => smooth x al s (i 0) (i 1) (i 2) 1000

end Cert.Spec

end
-- ==== Proof.KernelValue.lean ====
/-
  The run of the kernel ends with the two results of the specification, and its arguments as they were.
-/
module

public import proofs.«01_k».proof.Proof.Tail
public import proofs.«01_k».proof.Proof.Spec

@[expose] public section

set_option maxRecDepth 16384

noncomputable section

open Idealize.ShloMosaic Idealize.ShloMosaic.TcCoe Idealize.SL.Sem

namespace Cert.KernelIdeal.KernelValue
open Cert.KernelIdeal Cert.KernelIdeal.Gen Cert.KernelIdeal.Lanes Cert.KernelIdeal.Average Cert.KernelIdeal.Arrays Cert.KernelIdeal.Entry
open Cert.KernelIdeal.Tail

variable (m : (ℓ : Loc nD τ sig) → Buf (Elt Ideal) ℓ) (c : Dev nD)

/-- The array of x at a time step is x itself there. -/
theorem x_at (p : Fin 32) (n : ℕ) (hn : n < 1000) (l : Fin 514) :
    xA m c (at4 p n l) = xArg m c (ix5 (batch p) (chan p) (Spec.time n) (freq l) (part l)) := by
  rw [xA_eq]
  have e : (⟨n / 8 % 125 * 8 + n % 8, by omega⟩ : Fin 1000) = Spec.time n := Fin.ext (by simp only; omega)
  exact congrArg (fun q => xArg m c (ix5 (batch p) (chan p) q (freq l) (part l))) e

/-- A lane and its partner hold the two parts of one frequency: the power of a lane is that of its frequency. -/
theorem pwr_eq (p : Fin 32) (l : Fin 514) (n : ℕ) (hn : n < 1000) :
    pwr (xA m c) p l n = Spec.power (xArg m c) (batch p) (chan p) (freq l) n := by
  unfold pwr Spec.power
  rw [x_at m c p n hn, x_at m c p n hn]
  rcases Nat.mod_two_eq_zero_or_one l.val with h | h
  · have hp : partner l = ⟨(l.val + 1) % 514, Nat.mod_lt _ (by decide)⟩ := if_pos h
    have e1 : part l = 0 := Fin.ext h
    have e2 : part (partner l) = 1 := by rw [hp]; exact Fin.ext (by show (l.val + 1) % 514 % 2 = 1; omega)
    have e3 : freq (partner l) = freq l := by rw [hp]; exact Fin.ext (by show (l.val + 1) % 514 / 2 = l.val / 2; omega)
    rw [e1, e2, e3]
  · have hp : partner l = ⟨l.val - 1, by omega⟩ := if_neg (by omega)
    have e1 : part l = 1 := Fin.ext h
    have e2 : part (partner l) = 0 := by rw [hp]; exact Fin.ext (by show (l.val - 1) % 2 = 0; omega)
    have e3 : freq (partner l) = freq l := by rw [hp]; exact Fin.ext (by show (l.val - 1) / 2 = l.val / 2; omega)
    rw [e1, e2, e3]
    exact add_comm _ _

/-- The average of a lane is the average of its frequency. -/
theorem avg_eq (p : Fin 32) (l : Fin 514) (n : ℕ) (hn : n ≤ 1000) :
    avg (xA m c) (aA m c) (sA m c) p l n = Spec.smooth (xArg m c) (aArg m c) (sArg m c) (batch p) (chan p) (freq l) n := by
  unfold avg Spec.smooth
  rw [aA_eq, sA_eq]
  exact Ema.ema_congr _ _ _ _ _ fun k hk => pwr_eq m c p l k (by omega)

/-- The normalized value at a row and a lane. -/
theorem nrm_eq (p : Fin 32) (l : Fin 514) (n : ℕ) (hn : n < 1000) :
    nrm (xA m c) (aA m c) (wA m c) (bA m c) (sA m c) p l n
      = Spec.value (xArg m c) (wArg m c) (bArg m c) (aArg m c) (sArg m c) (batch p) (chan p) (freq l) n (part l) := by
  unfold nrm Spec.value
  rw [avg_eq m c p l (n + 1) (by omega), x_at m c p n hn, wA_eq, bA_eq]
  rfl

/-- The host lines after the pipeline make the first result of its first array. -/
theorem result_y : (fun i => yArr (xA m c) (aA m c) (wA m c) (bA m c) (sA m c) (ix4 (rowOf (i 0) (i 1)) (chunkOf (i 2)) (stepOf (i 2)) (laneOf (i 3) (i 4))) : Vec Ideal S16x2x1000x257x2 .f32)
    = Spec.normalized (xArg m c) (wArg m c) (bArg m c) (aArg m c) (sArg m c) := by
  funext i
  obtain ⟨b, k, n, f, d, rfl⟩ : ∃ (b : Fin 16) (k : Fin 2) (n : Fin 1000) (f : Fin 257) (d : Fin 2), i = ix5 b k n f d :=
    ⟨i 0, i 1, i 2, i 3, i 4, eq_ix5 i⟩
  refine (yArr_of _ _ _ _ _ (ix4 (rowOf b k) (chunkOf n) (stepOf n) (laneOf f d)) (rowOf b k) (laneOf f d) n.val rfl
    (by show 8 * (n.val / 8) + n.val % 8 = n.val; omega) rfl).trans ?_
  rw [nrm_eq m c _ _ _ n.isLt]
  have e1 : batch (rowOf b k) = b := Fin.ext (by show (b.val * 2 + k.val) / 2 = b.val; omega)
  have e2 : chan (rowOf b k) = k := Fin.ext (by show (b.val * 2 + k.val) % 2 = k.val; omega)
  have e3 : freq (laneOf f d) = f := Fin.ext (by show (f.val * 2 + d.val) / 2 = f.val; omega)
  have e4 : part (laneOf f d) = d := Fin.ext (by show (f.val * 2 + d.val) % 2 = d.val; omega)
  rw [e1, e2, e3, e4]
  rfl

/-- And the second result of its second array. -/
theorem result_s : (fun i => sArr (xA m c) (aA m c) (sA m c) (ix2 (rowOf (i 0) (i 1)) (evenLane (i 2))) : Vec Ideal S16x2x257x1 .f32)
    = Spec.last (xArg m c) (aArg m c) (sArg m c) := by
  funext i
  obtain ⟨b, k, f, d, rfl⟩ : ∃ (b : Fin 16) (k : Fin 2) (f : Fin 257) (d : Fin 1), i = ix4 b k f d :=
    ⟨i 0, i 1, i 2, i 3, eq_ix4 i⟩
  refine (sArr_of _ _ _ (ix2 (rowOf b k) (evenLane f)) (rowOf b k) (evenLane f) rfl rfl).trans ?_
  rw [avg_eq m c _ _ 1000 le_rfl]
  have e1 : batch (rowOf b k) = b := Fin.ext (by show (b.val * 2 + k.val) / 2 = b.val; omega)
  have e2 : chan (rowOf b k) = k := Fin.ext (by show (b.val * 2 + k.val) % 2 = k.val; omega)
  have e3 : freq (evenLane f) = f := Fin.ext (by show 2 * f.val / 2 = f.val; omega)
  rw [e1, e2, e3]
  rfl

/-- What the first result buffer holds after the host lines that follow the pipeline. -/
theorem out_y : Pipeline.afterTail₀ cfgs (dats m) 0 (V0 m) [hostOps1] c main_v23
    = Spec.normalized (xArg m c) (wArg m c) (bArg m c) (aArg m c) (sArg m c) := by
  refine (congrArg (fun ops => StableHlo.after ops _ (Proc.devRef .tc main_v23)) (List.append_nil (hostOps1 : List (HloOp τ sig (Elt Ideal))))).trans ?_
  refine (tail_y _ _ ((Pipeline.withArrays_arr spec0 (by decide) c _ _ 5).trans (final5 m c))).trans ?_
  exact result_y m c

/-- What the second result buffer holds after them. -/
theorem out_s : Pipeline.afterTail₀ cfgs (dats m) 0 (V0 m) [hostOps1] c main_v25
    = Spec.last (xArg m c) (aArg m c) (sArg m c) := by
  refine (congrArg (fun ops => StableHlo.after ops _ (Proc.devRef .tc main_v25)) (List.append_nil (hostOps1 : List (HloOp τ sig (Elt Ideal))))).trans ?_
  refine (tail_s _ _ ((Pipeline.withArrays_arr spec0 (by decide) c _ _ 6).trans (final6 m c))).trans ?_
  exact result_s m c

/-- Every execution of the kernel ends with the two results of the specification and its arguments unchanged. -/
theorem run (g : Dev nD → PrngReg) : θ_run defs (onTc (τ := τ) (main (F := Ideal))) ⟨m, fun _ => 0, g⟩ (fun r => ∀ c : Dev nD,
    r.2.mem ((c.tc : Thread nD τ).loc main_v23) = Spec.normalized (xArg m c) (wArg m c) (bArg m c) (aArg m c) (sArg m c)
    ∧ r.2.mem ((c.tc : Thread nD τ).loc main_v25) = Spec.last (xArg m c) (aArg m c) (sArg m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c =>
    ⟨((h c).2 main_v23 (Pipeline.mem_restRefs_of main_v23 (by decide) (by decide))).trans (out_y m c),
     ((h c).2 main_v25 (Pipeline.mem_restRefs_of main_v25 (by decide) (by decide))).trans (out_s m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m g)

end Cert.KernelIdeal.KernelValue
end
-- ==== Proof.Trip.lean ====
/-
  One trip of the reference's loop, index by index: trip k reads the powers of time step k, moves the average one step
  on and stores it at position k of the array of averages.
-/
module

public import proofs.«01_k».proof.Proof.Gen.ReferenceIdeal.Run
public import proofs.«01_k».proof.Proof.Spec
public import Idealize.ShloMosaic.Lib.Tactic.CleanTypes
public import Idealize.ShloMosaic.Lib.WordCmp

@[expose] public section

set_option maxRecDepth 16384

noncomputable section

open Idealize.ShloMosaic Idealize.ShloMosaic.TcCoe Idealize.SL.Sem

namespace Cert.ReferenceIdeal.Trip
open Cert.ReferenceIdeal Cert.ReferenceIdeal.Gen Cert.ReferenceIdeal.Value

section Cut
variable {α : Type} (x : S1000x16x2x257x1.Idx → α) (v : S1x16x2x257x1.Idx → α) (st : Fin 5 → Int) (k : ℕ)

/-- The place of time step `k` in the array of powers: offset `k` along time, none along the other axes. -/
abbrev place (k : ℕ) : Fin 5 → ℕ := ![k, 0, 0, 0, 0]

/-- One time step fits at its place. -/
theorem place_fits (hk : k < 1000) : S1000x16x2x257x1.Slices (place k) S1x16x2x257x1 :=
  ⟨rfl, fun a => by
    fin_cases a
    · show k + 1 ≤ 1000
      omega
    · exact Nat.le_refl 16
    · exact Nat.le_refl 2
    · exact Nat.le_refl 257
    · exact Nat.le_refl 1⟩

/-- The start words of trip `k`, read as integers, are the place of time step `k`. -/
theorem start_eq (z : Fin 5 → BitVec 32) (h0 : z 0 = BitVec.ofNat 32 k) (h1 : z 1 = 0#32) (h2 : z 2 = 0#32) (h3 : z 3 = 0#32) (h4 : z 4 = 0#32)
    (hk : k < 1000) (i : Fin 5) : (z i).toInt = (place k i : Int) := by
  have e : (BitVec.ofNat 32 k).toInt = (k : Int) := by
    rw [BitVec.toInt_ofNat', Int.bmod_def]
    omega
  fin_cases i
  · exact (congrArg BitVec.toInt h0).trans e
  · exact (congrArg BitVec.toInt h1).trans rfl
  · exact (congrArg BitVec.toInt h2).trans rfl
  · exact (congrArg BitVec.toInt h3).trans rfl
  · exact (congrArg BitVec.toInt h4).trans rfl

/-- A block of one time step cut out at the place of time step `k`. -/
theorem slice_at (hk : k < 1000) (h : S1000x16x2x257x1.Slices (fun _ => 0) S1x16x2x257x1) (hst : ∀ i, st i = (place k i : Int)) (b : Fin 16) (c : Fin 2) (f : Fin 257) :
    Host.dynamicSlice S1x16x2x257x1 x st h (ix5 0 b c f 0) = x (ix5 ⟨k, hk⟩ b c f 0) := by
  rw [WordCmp.dynamicSlice_eq_extract _ _ _ _ (place k) (place_fits k hk) hst]
  refine congrArg x (funext fun i => ?_)
  fin_cases i <;> exact Fin.ext (by simp [place])

/-- A block of one time step stored at the place of time step `k`. -/
theorem store_at (hk : k < 1000) (h : S1000x16x2x257x1.Slices (fun _ => 0) S1x16x2x257x1) (hst : ∀ i, st i = (place k i : Int)) (n : Fin 1000) (b : Fin 16) (c : Fin 2) (f : Fin 257) :
    Host.dynamicUpdateSlice x v st h (ix5 n b c f 0) = if n.val = k then v (ix5 0 b c f 0) else x (ix5 n b c f 0) := by
  rw [WordCmp.dynamicUpdateSlice_eq_update _ _ _ _ (place k) (place_fits k hk) hst]
  unfold updateSlice
  by_cases hn : n.val = k
  · rw [if_pos hn, dif_pos]
    · refine congrArg v (funext fun i => ?_)
      fin_cases i
      · exact Fin.ext (show n.val - k = 0 by omega)
      all_goals exact Fin.ext (Nat.sub_zero _)
    · intro i
      fin_cases i
      · exact ⟨show k ≤ n.val by omega, show n.val < k + 1 by omega⟩
      · exact ⟨Nat.zero_le _, show b.val < 0 + 16 by omega⟩
      · exact ⟨Nat.zero_le _, show c.val < 0 + 2 by omega⟩
      · exact ⟨Nat.zero_le _, show f.val < 0 + 257 by omega⟩
      · exact ⟨Nat.zero_le _, show (0 : ℕ) < 0 + 1 by omega⟩
  · rw [if_neg hn, dif_neg]
    intro hin
    have h0 : k ≤ n.val ∧ n.val < k + 1 := hin 0
    omega

end Cut

variable (V0 : Valuation τ sig (Elt Ideal)) (xs ys : Vec Ideal S1000x16x2x257x1 .f32) (a : Vec Ideal S1x2x257x1 .f32) (s : Vec Ideal S16x2x257x1 .f32)
  (k : ℕ)

/-- The average after trip `k`. -/
theorem state_apply (hk : k < 1000) (h0 : V0 (Proc.devRef .tc main_v11_0) = xs) (h1 : V0 (Proc.devRef .tc main_v11_1) = a)
    (h2 : V0 (Proc.devRef .tc main_v11_2) = fun _ => BitVec.ofNat 32 k) (h3 : V0 (Proc.devRef .tc main_v11_3) = s) (b : Fin 16) (c : Fin 2) (f : Fin 257) :
    (res_main_while0b_v29 V0 : Vec Ideal S16x2x257x1 .f32) (ix4 b c f 0)
      = s (ix4 b c f 0) * (1 - a (ix4 0 c f 0)) + xs (ix5 ⟨k, hk⟩ b c f 0) * a (ix4 0 c f 0) := by
  unfold res_main_while0b_v29
  rw [h0, h1, h2, h3]
  clean_types
  generalize hst : (fun i : Fin 5 => BitVec.toInt (_ : BitVec 32)) = st
  have e := fun hs => slice_at xs st k hk hs (by subst hst; exact start_eq k _ rfl rfl rfl rfl rfl hk) b c f
  generalize hd : Host.dynamicSlice S1x16x2x257x1 xs st _ = d
  replace e := (congrFun hd.symm _).trans (e _)
  clear hd
  pointwise
  rw [e]

/-- The array of averages after trip `k`. -/
theorem store_apply (hk : k < 1000) (u : Vec Ideal S16x2x257x1 .f32) (h : res_main_while0b_v29 V0 = u)
    (h2 : V0 (Proc.devRef .tc main_v11_2) = fun _ => BitVec.ofNat 32 k) (h4 : V0 (Proc.devRef .tc main_v11_4) = ys) (n : Fin 1000) (b : Fin 16) (c : Fin 2) (f : Fin 257) :
    (step_main_v11_4 V0 : Vec Ideal S1000x16x2x257x1 .f32) (ix5 n b c f 0) = if n.val = k then u (ix4 b c f 0) else ys (ix5 n b c f 0) := by
  unfold step_main_v11_4
  rw [h2, h4, h]
  clean_types
  generalize hst : (fun i : Fin 5 => BitVec.toInt (_ : BitVec 32)) = st
  refine (store_at ys _ st k hk _ (by subst hst; exact start_eq k _ rfl rfl rfl rfl rfl hk) n b c f).trans ?_
  pointwise

end Cert.ReferenceIdeal.Trip
end
-- ==== Proof.RefValue.lean ====
/-
  The reference's results: the loop, run for all time steps, leaves the average of every lane after every time step, so
  the two results are the two arrays of the mathematics.
-/
module

public import proofs.«01_k».proof.Proof.Trip

@[expose] public section

set_option maxRecDepth 16384

noncomputable section

open Idealize.ShloMosaic Idealize.ShloMosaic.TcCoe Idealize.SL.Sem

namespace Cert.ReferenceIdeal.RefValue
open Cert.ReferenceIdeal Cert.ReferenceIdeal.Gen Cert.ReferenceIdeal.Value Cert.Ema
open Idealize.ShloMosaic.StableHlo Idealize.ShloMosaic.Pipeline

variable (m : (ℓ : Loc nD τ sig) → Buf (Elt Ideal) ℓ) (c : Dev nD)

/-- The argument arrays of device `c`: x, scales, biases, weights alpha, start states. -/
abbrev xArg : Vec Ideal Spec.SX .f32 := m ((c : Thread nD τ).loc main_arg0)
abbrev wArg : Vec Ideal Spec.SW .f32 := m ((c : Thread nD τ).loc main_arg1)
abbrev bArg : Vec Ideal Spec.SW .f32 := m ((c : Thread nD τ).loc main_arg2)
abbrev aArg : Vec Ideal Spec.SA .f32 := m ((c : Thread nD τ).loc main_arg3)
abbrev sArg : Vec Ideal Spec.SS .f32 := m ((c : Thread nD τ).loc main_arg4)

/-- The powers at the loop's entry, over an array x. -/
def powers (x : Vec Ideal Spec.SX .f32) : Vec Ideal S1000x16x2x257x1 .f32 :=
  fun i => Spec.power x (i 1) (i 2) (i 3) (i 0).val

/-- An array of the shape of x is known from its entries (b, c, n, f, d). -/
theorem ext_blocks {u v : Vec Ideal Spec.SX .f32} (h : ∀ b q n f d, u (ix5 b q n f d) = v (ix5 b q n f d)) : u = v := by
  funext i
  have e : i = ix5 (i 0) (i 1) (i 2) (i 3) (i 4) := by
    funext a
    fin_cases a <;> rfl
  rw [e]
  exact h _ _ _ _ _

/-- The operations before the loop give the powers: x squared, summed over its two parts, time first. -/
theorem powers_eq (x : Vec Ideal Spec.SX .f32) :
    (transpose S1000x16x2x257x1 [2, 0, 1, 3, 4]
      (broadcastInDim S16x2x1000x257x1 ![0, 1, 2, 3] bcast_S16x2x1000x257_S16x2x1000x257x1_0_1_2_3
        (Host.reduceAdd (mulf x x) (constant (F := Ideal) S_ FTy.f32 0#32) reducesTo_S16x2x1000x257x2_S16x2x1000x257_d4 h_S_))
      transposes_S16x2x1000x257x1_S1000x16x2x257x1_2_0_1_3_4 : Vec Ideal S1000x16x2x257x1 .f32) = powers x := by
  funext j
  unfold powers Spec.power
  pointwise
  have e : Spec.time (j 0).val = j 0 := Fin.ext (Nat.mod_eq_of_lt (j 0).isLt)
  rw [e]
  exact Fin.sum_univ_two _

/-- The operations before the loop give the weights: the sigmoid of alpha. -/
theorem weights_eq (al : Vec Ideal Spec.SA .f32) :
    (Host.divf (broadcastInDim S1x2x257x1 ![] bcast_S_S1x2x257x1 (constant (F := Ideal) S_ FTy.f32 1065353216#32))
      (addf (broadcastInDim S1x2x257x1 ![] bcast_S_S1x2x257x1 (constant S_ FTy.f32 1065353216#32)) (Host.exp (Host.negf al))) : Vec Ideal S1x2x257x1 .f32)
      = fun i => Ideal.logistic (al i) := by
  funext j
  pointwise
  rfl

/-- The powers at the loop's entry. -/
theorem entry_powers : entryContents preI m c (Proc.devRef .tc main_v11_0) = powers (xArg m c) := by
  simp only [entryContents, afterL_cons, afterL_nil]
  after_reads_simp
  exact powers_eq (xArg m c)

/-- The weights at the loop's entry: the sigmoid of alpha. -/
theorem entry_weights : entryContents preI m c (Proc.devRef .tc main_v11_1) = (fun i => Ideal.logistic (aArg m c i) : Vec Ideal S1x2x257x1 .f32) := by
  simp only [entryContents, afterL_cons, afterL_nil]
  after_reads_simp
  exact weights_eq (aArg m c)

/-- The start states at the loop's entry. -/
theorem entry_state : entryContents preI m c (Proc.devRef .tc main_v11_3) = sArg m c := by
  simp only [entryContents, afterL_cons, afterL_nil]
  after_reads_simp
  rfl

/-- The buffers after `k` trips. -/
abbrev trips (k : ℕ) : Valuation τ sig (Elt Ideal) := STEP^[k] (entryContents preI m c)

/-- One more trip is one more step. -/
theorem trips_succ (k : ℕ) : trips m c (k + 1) = STEP (trips m c k) := Function.iterate_succ_apply' _ _ _

/-- No trip changes the powers. -/
theorem trips_powers (k : ℕ) : trips m c k (Proc.devRef .tc main_v11_0) = powers (xArg m c) := by
  induction k with
  | zero => exact entry_powers m c
  | succ k ih => rw [trips_succ, STEP_main_v11_0, ih]

/-- No trip changes the weights. -/
theorem trips_weights (k : ℕ) : trips m c k (Proc.devRef .tc main_v11_1) = (fun i => Ideal.logistic (aArg m c i) : Vec Ideal S1x2x257x1 .f32) := by
  induction k with
  | zero => exact entry_weights m c
  | succ k ih => rw [trips_succ, STEP_main_v11_1, ih]

/-- The counter after `k` trips is `k`. -/
theorem trips_counter (k : ℕ) : trips m c k (Proc.devRef .tc main_v11_2) = fun _ => BitVec.ofNat 32 k := by
  induction k with
  | zero => exact ctr_entry m c
  | succ k ih =>
    rw [trips_succ, STEP_main_v11_2]
    unfold step_main_v11_2
    rw [ih]
    funext i
    exact (BitVec.ofNat_add k 1).symm

/-- The state after `n` time steps, as an array. -/
def stateAt (x : Vec Ideal Spec.SX .f32) (al : Vec Ideal Spec.SA .f32) (s : Vec Ideal Spec.SS .f32) (n : ℕ) : Vec Ideal S16x2x257x1 .f32 :=
  fun i => Spec.smooth x al s (i 0) (i 1) (i 2) n

/-- The state an array of shape `S16x2x257x1` holds is known from its entries (b, c, f, 0). -/
theorem ext_state {u v : Vec Ideal S16x2x257x1 .f32} (h : ∀ b c f, u (ix4 b c f 0) = v (ix4 b c f 0)) : u = v := by
  funext i
  have e : i = ix4 (i 0) (i 1) (i 2) 0 := by
    funext a
    fin_cases a
    · rfl
    · rfl
    · rfl
    · exact Fin.ext (Nat.lt_one_iff.mp (i 3).isLt)
  rw [e]
  exact h _ _ _

/-- A trip on a state after `k` time steps gives the state after `k + 1`. -/
theorem trip_state (k : ℕ) (hk : k < 1000) (h3 : trips m c k (Proc.devRef .tc main_v11_3) = stateAt (xArg m c) (aArg m c) (sArg m c) k) :
    (res_main_while0b_v29 (trips m c k) : Vec Ideal S16x2x257x1 .f32) = stateAt (xArg m c) (aArg m c) (sArg m c) (k + 1) := by
  refine ext_state fun b q f => ?_
  rw [Trip.state_apply _ _ _ _ k hk (trips_powers m c k) (trips_weights m c k) (trips_counter m c k) h3]
  rfl

/-- The state after `k` trips. -/
theorem trips_state (k : ℕ) (hk : k ≤ 1000) : trips m c k (Proc.devRef .tc main_v11_3) = stateAt (xArg m c) (aArg m c) (sArg m c) k := by
  induction k with
  | zero =>
    refine (entry_state m c).trans (ext_state fun b q f => ?_)
    rfl
  | succ k ih =>
    rw [trips_succ, STEP_main_v11_3]
    exact trip_state m c k hk (ih (Nat.le_of_succ_le hk))

/-- After `k` trips the array of averages holds, at every time step before `k`, the average after that step. -/
theorem trips_stored (k : ℕ) (hk : k ≤ 1000) (n : Fin 1000) (hn : n.val < k) (b : Fin 16) (q : Fin 2) (f : Fin 257) :
    (trips m c k (Proc.devRef .tc main_v11_4) : Vec Ideal S1000x16x2x257x1 .f32) (ix5 n b q f 0)
      = Spec.smooth (xArg m c) (aArg m c) (sArg m c) b q f (n.val + 1) := by
  induction k with
  | zero => exact absurd hn (Nat.not_lt_zero _)
  | succ k ih =>
    have e := Trip.store_apply (trips m c k) _ k hk _ (trip_state m c k hk (trips_state m c k (Nat.le_of_succ_le hk))) (trips_counter m c k) rfl n b q f
    rw [trips_succ, STEP_main_v11_4, e]
    by_cases h : n.val = k
    · rw [if_pos h, h]
      rfl
    · rw [if_neg h]
      exact ih (Nat.le_of_succ_le hk) (by omega)

/-- The array `ys` holds the average after every time step. -/
abbrev stored (ys : Vec Ideal S1000x16x2x257x1 .f32) (x : Vec Ideal Spec.SX .f32) (al : Vec Ideal Spec.SA .f32) (s : Vec Ideal Spec.SS .f32) : Prop :=
  ∀ (n : Fin 1000) (b : Fin 16) (q : Fin 2) (f : Fin 257), ys (ix5 n b q f 0) = Spec.smooth x al s b q f (n.val + 1)

/-- The operations after the loop, on the averages after every time step, give the first result. -/
theorem normalized_eq (x : Vec Ideal Spec.SX .f32) (w bi : Vec Ideal Spec.SW .f32) (al : Vec Ideal Spec.SA .f32) (s : Vec Ideal Spec.SS .f32)
    (ys : Vec Ideal S1000x16x2x257x1 .f32) (h : stored ys x al s) :
    (addf (mulf (Host.divf x (broadcastInDim S16x2x1000x257x2 ![0, 1, 2, 3, 4] bcast_S16x2x1000x257x1_S16x2x1000x257x2_0_1_2_3_4
        (addf (Host.sqrt (transpose S16x2x1000x257x1 [1, 2, 0, 3, 4] ys transposes_S1000x16x2x257x1_S16x2x1000x257x1_1_2_0_3_4))
          (broadcastInDim S16x2x1000x257x1 ![] bcast_S_S16x2x1000x257x1 (constant (F := Ideal) S_ .f32 0x322BCC77#32)))))
      (broadcastInDim S16x2x1000x257x2 ![0, 1, 2, 3, 4] bcast_S1x2x1x257x1_S16x2x1000x257x2_0_1_2_3_4 w))
      (broadcastInDim S16x2x1000x257x2 ![0, 1, 2, 3, 4] bcast_S1x2x1x257x1_S16x2x1000x257x2_0_1_2_3_4 bi) : Vec Ideal Spec.SX .f32)
      = Spec.normalized x w bi al s := by
  refine ext_blocks fun b q n f d => ?_
  pointwise
  rw [h]
  have e : Spec.time n.val = n := Fin.ext (Nat.mod_eq_of_lt n.isLt)
  show _ = Spec.value x w bi al s b q f n.val d
  unfold Spec.value
  rw [e]

/-- The first result of the reference. -/
theorem result_y : out_main_v21 (trips m c 1000) = Spec.normalized (xArg m c) (wArg m c) (bArg m c) (aArg m c) (sArg m c) := by
  unfold out_main_v21
  have e0 : trips m c 1000 (Proc.devRef .tc main_arg0) = xArg m c := iter_main_arg0 m c 1000
  have e1 : trips m c 1000 (Proc.devRef .tc main_arg1) = wArg m c := iter_main_arg1 m c 1000
  have e2 : trips m c 1000 (Proc.devRef .tc main_arg2) = bArg m c := iter_main_arg2 m c 1000
  rw [e0, e1, e2]
  exact normalized_eq (xArg m c) (wArg m c) (bArg m c) (aArg m c) (sArg m c) _
    fun n b q f => trips_stored m c 1000 (Nat.le_refl _) n n.isLt b q f

/-- The second result of the reference. -/
theorem result_s : trips m c 1000 (Proc.devRef .tc main_v11_3) = Spec.last (xArg m c) (aArg m c) (sArg m c) :=
  trips_state m c 1000 (Nat.le_refl _)

/-- Every execution of the reference ends with the two results of the specification and its arguments unchanged. -/
theorem run (g : Dev nD → PrngReg) : θ_run defs (onTc (τ := τ) (main (F := Ideal))) ⟨m, fun _ => 0, g⟩ (fun r => ∀ c : Dev nD,
    r.2.mem ((c : Thread nD τ).loc main_v21) = Spec.normalized (xArg m c) (wArg m c) (bArg m c) (aArg m c) (sArg m c)
    ∧ r.2.mem ((c : Thread nD τ).loc main_v11_3) = Spec.last (xArg m c) (aArg m c) (sArg m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c => ⟨(h c).1.trans (result_y m c), (h c).2.1.trans (result_s m c), (h c).2.2⟩) (Value.run m g)

end Cert.ReferenceIdeal.RefValue
end
-- ==== Proof.lean ====
/- The certificate's claim, assembled: the frames of the kernel as printed and as idealized, the frame of the
   reference, and the equality of both results, each side's run being stated in its own module over one
   specification. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both programs end with equal results, from memories that agree on the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, Cert.KernelIdeal.KernelValue.run m g, ?_⟩
  refine (θ_run Cert.ReferenceIdeal.defs _ _).mono (fun r h c => ?_) (Cert.ReferenceIdeal.RefValue.run m' g')
  obtain ⟨e0, e1, e2, e3, e4⟩ := hargs c
  obtain ⟨hy, hs, hrest⟩ := h c
  refine ⟨hy.trans ?_, hs.trans ?_, hrest⟩
  · exact congr (congr (congr (congr (congrArg Cert.Spec.normalized e0) e1) e2) e3) e4
  · exact congr (congr (congrArg Cert.Spec.last e0) e3) e4

/-- The reference runs, keeps its arguments and leaves every semaphore at zero: it has none. -/
theorem reference_frame : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems (by decide) r.2⟩)
    (Cert.ReferenceIdeal.RefValue.run m g)

/-- The claim: the three frames, the idealization, the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
